-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x4608 : Shape := ⟨3, ![192, 1, 4608]⟩
abbrev S9216x2304 : Shape := ⟨2, ![9216, 2304]⟩
abbrev S9216x144 : Shape := ⟨2, ![9216, 144]⟩
abbrev S192x4608 : Shape := ⟨2, ![192, 4608]⟩
abbrev S192x9216 : Shape := ⟨2, ![192, 9216]⟩
abbrev S512x2304 : Shape := ⟨2, ![512, 2304]⟩
abbrev S512x144 : Shape := ⟨2, ![512, 144]⟩
abbrev S192x512 : Shape := ⟨2, ![192, 512]⟩
abbrev S144x512 : Shape := ⟨2, ![144, 512]⟩
abbrev S512x128 : Shape := ⟨2, ![512, 128]⟩
abbrev S128x512 : Shape := ⟨2, ![128, 512]⟩
abbrev S32x512 : Shape := ⟨2, ![32, 512]⟩
abbrev S1x512 : Shape := ⟨2, ![1, 512]⟩
abbrev S16x512 : Shape := ⟨2, ![16, 512]⟩
abbrev S256x512 : Shape := ⟨2, ![256, 512]⟩
abbrev S192x256 : Shape := ⟨2, ![192, 256]⟩
abbrev S192x1x9216 : Shape := ⟨3, ![192, 1, 9216]⟩

abbrev nBuf : Space → Nat
  | .hbm => 7
  | .vmem => 9
  | .smem => 0
  | _ => 0

abbrev bufTy : (tb : Table) → Fin (tcTables nBuf tb) → BufTy
  | .hbm, ⟨0, _⟩ => ⟨S192x1x4608, .bf16⟩
  | .hbm, ⟨1, _⟩ => ⟨S9216x2304, .i8⟩
  | .hbm, ⟨2, _⟩ => ⟨S9216x144, .bf16⟩
  | .hbm, ⟨3, _⟩ => ⟨S9216x144, .bf16⟩
  | .hbm, ⟨4, _⟩ => ⟨S192x4608, .bf16⟩
  | .hbm, ⟨5, _⟩ => ⟨S192x9216, .bf16⟩
  | .hbm, ⟨6, _⟩ => ⟨S192x1x9216, .bf16⟩
  | .local _ .vmem, ⟨0, _⟩ => ⟨S192x4608, .bf16⟩
  | .local _ .vmem, ⟨1, _⟩ => ⟨S512x2304, .i8⟩
  | .local _ .vmem, ⟨2, _⟩ => ⟨S512x2304, .i8⟩
  | .local _ .vmem, ⟨3, _⟩ => ⟨S512x144, .bf16⟩
  | .local _ .vmem, ⟨4, _⟩ => ⟨S512x144, .bf16⟩
  | .local _ .vmem, ⟨5, _⟩ => ⟨S512x144, .bf16⟩
  | .local _ .vmem, ⟨6, _⟩ => ⟨S512x144, .bf16⟩
  | .local _ .vmem, ⟨7, _⟩ => ⟨S192x512, .bf16⟩
  | .local _ .vmem, ⟨8, _⟩ => ⟨S192x512, .bf16⟩
  | _, _ => ⟨S192x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2304 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x1x4608 : Shape := ⟨3, ![192, 1, 4608]⟩
abbrev S9216x2304 : Shape := ⟨2, ![9216, 2304]⟩
abbrev S9216x144 : Shape := ⟨2, ![9216, 144]⟩
abbrev S9216x144x16 : Shape := ⟨3, ![9216, 144, 16]⟩
abbrev S_ : Shape := ⟨0, ![]⟩
abbrev S9216x144x1 : Shape := ⟨3, ![9216, 144, 1]⟩
abbrev S192x144x32 : Shape := ⟨3, ![192, 144, 32]⟩
abbrev S192x144x16 : Shape := ⟨3, ![192, 144, 16]⟩
abbrev S192x2304 : Shape := ⟨2, ![192, 2304]⟩
abbrev S192x9216 : Shape := ⟨2, ![192, 9216]⟩
abbrev S192x1x9216 : Shape := ⟨3, ![192, 1, 9216]⟩

abbrev nBuf : Space → Nat
  | .hbm => 38
  | .vmem => 0
  | .smem => 0
  | _ => 0

abbrev bufTy : (tb : Table) → Fin (tcTables nBuf tb) → BufTy
  | .hbm, ⟨0, _⟩ => ⟨S192x1x4608, .bf16⟩
  | .hbm, ⟨1, _⟩ => ⟨S9216x2304, .i8⟩
  | .hbm, ⟨2, _⟩ => ⟨S9216x144, .bf16⟩
  | .hbm, ⟨3, _⟩ => ⟨S9216x144, .bf16⟩
  | .hbm, ⟨4, _⟩ => ⟨S9216x2304, .i32⟩
  | .hbm, ⟨5, _⟩ => ⟨S9216x144x16, .i32⟩
  | .hbm, ⟨6, _⟩ => ⟨S_, .i32⟩
  | .hbm, ⟨7, _⟩ => ⟨S9216x144x16, .i32⟩
  | .hbm, ⟨8, _⟩ => ⟨S9216x144x16, .i32⟩
  | .hbm, ⟨9, _⟩ => ⟨S9216x144x16, .bf16⟩
  | .hbm, ⟨10, _⟩ => ⟨S9216x144x1, .bf16⟩
  | .hbm, ⟨11, _⟩ => ⟨S9216x144x16, .bf16⟩
  | .hbm, ⟨12, _⟩ => ⟨S9216x144x16, .bf16⟩
  | .hbm, ⟨13, _⟩ => ⟨S9216x144x1, .bf16⟩
  | .hbm, ⟨14, _⟩ => ⟨S9216x144x16, .bf16⟩
  | .hbm, ⟨15, _⟩ => ⟨S9216x144x16, .bf16⟩
  | .hbm, ⟨16, _⟩ => ⟨S9216x2304, .bf16⟩
  | .hbm, ⟨17, _⟩ => ⟨S_, .i32⟩
  | .hbm, ⟨18, _⟩ => ⟨S9216x144x16, .i32⟩
  | .hbm, ⟨19, _⟩ => ⟨S9216x144x16, .i32⟩
  | .hbm, ⟨20, _⟩ => ⟨S9216x144x16, .bf16⟩
  | .hbm, ⟨21, _⟩ => ⟨S9216x144x1, .bf16⟩
  | .hbm, ⟨22, _⟩ => ⟨S9216x144x16, .bf16⟩
  | .hbm, ⟨23, _⟩ => ⟨S9216x144x16, .bf16⟩
  | .hbm, ⟨24, _⟩ => ⟨S9216x144x1, .bf16⟩
  | .hbm, ⟨25, _⟩ => ⟨S9216x144x16, .bf16⟩
  | .hbm, ⟨26, _⟩ => ⟨S9216x144x16, .bf16⟩
  | .hbm, ⟨27, _⟩ => ⟨S9216x2304, .bf16⟩
  | .hbm, ⟨28, _⟩ => ⟨S192x144x32, .bf16⟩
  | .hbm, ⟨29, _⟩ => ⟨S192x144x16, .bf16⟩
  | .hbm, ⟨30, _⟩ => ⟨S192x2304, .bf16⟩
  | .hbm, ⟨31, _⟩ => ⟨S192x144x16, .bf16⟩
  | .hbm, ⟨32, _⟩ => ⟨S192x2304, .bf16⟩
  | .hbm, ⟨33, _⟩ => ⟨S192x9216, .f32⟩
  | .hbm, ⟨34, _⟩ => ⟨S192x9216, .f32⟩
  | .hbm, ⟨35, _⟩ => ⟨S192x9216, .f32⟩
  | .hbm, ⟨36, _⟩ => ⟨S192x9216, .bf16⟩
  | .hbm, ⟨37, _⟩ => ⟨S192x1x9216, .bf16⟩
  | _, _ => ⟨S192x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Proof.Block.lean ====
/-
  What one grid point of the kernel computes, written once per tile of the depth instead of eighteen times.

  A point holds all 192 rows of the activations and 512 output columns. The depth (4608) is cut into eighteen tiles of 256.
  Tile `k` reads 128 bytes per column; a byte holds two four-bit codes. Eight groups of 32 depths each take sixteen bytes: the
  low codes are the first sixteen depths of the group, the high codes the last sixteen. The tile's weight is
  `code * scale + minimum`, its product with the activations is added to the running sum, and the sum is rounded to `bf16` once.
-/
module

public import proofs.«01_k».proof.Proof.Gen.KernelIdeal.Frame
public import Idealize.ShloMosaic.Lib.Tactic

@[expose] public section

noncomputable section

namespace Cert.KernelIdeal.Value

open Cert.KernelIdeal Cert.KernelIdeal.Gen Idealize.ShloMosaic Idealize.SL.Sem

variable {F : FTy → Type} [FloatOps F]

theorem slices_row (k : Fin 18) (g : Fin 8) : S144x512.Slices ![8 * k.val + g.val, 0] S1x512 := by
  revert k g; decide +kernel
theorem slices_group (g : Fin 8) : S128x512.Slices ![16 * g.val, 0] S16x512 := by
  revert g; decide +kernel
theorem inb_codes (k : Fin 18) : ∀ a, (![0, 128 * k.val] : Fin 2 → Nat) a + S512x128.size a ≤ S512x2304.size a := by
  revert k; decide +kernel
theorem inb_acts (k : Fin 18) : ∀ a, (![0, 256 * k.val] : Fin 2 → Nat) a + S192x256.size a ≤ S192x4608.size a := by
  revert k; decide +kernel

/-- Tile `k`'s bytes, 128 of each of the 512 columns. -/
abbrev rectCodes (k : Fin 18) : Rect S512x2304 := Rect.unit (s := S512x2304) ![0, 128 * k.val] S512x128.size (inb_codes k)
/-- Tile `k`'s activations, 256 depths of each of the 192 rows. -/
abbrev rectActs (k : Fin 18) : Rect S192x4608 := Rect.unit (s := S192x4608) ![0, 256 * k.val] S192x256.size (inb_acts k)

/-- A tile's bytes, depth by column, four depths of a column read as one word. -/
def words (v : Vec F S512x128 .i8) : IVec S32x512 32 :=
  bitcast S32x512 32 (transpose S128x512 [1, 0] v transposes_S512x128_p1_0_S128x512) bitcasts_S128x512_w8_S32x512_w32

/-- The low four bits of every byte, by one mask over the words. -/
def loBytes (v : Vec F S512x128 .i8) : IVec S128x512 8 :=
  bitcast S128x512 8 (andi (words v) (broadcast S32x512 252645135#32)) bitcasts_S32x512_w32_S128x512_w8

/-- The high four bits of every byte, by one shift and the same mask over the words. -/
def hiBytes (v : Vec F S512x128 .i8) : IVec S128x512 8 :=
  bitcast S128x512 8 (andi (shrsi (words v) (broadcast S32x512 4#32)) (broadcast S32x512 252645135#32)) bitcasts_S32x512_w32_S128x512_w8

/-- Group `g` of tile `k` from sixteen rows of codes: `code * scale + minimum`. -/
def part (k : Fin 18) (g : Fin 8) (sT mT : FVec F S144x512 .bf16) (b : IVec S128x512 8) : FVec F S16x512 .bf16 :=
  addf
    (mulf (extractStridedSlice S16x512 ![16 * g.val, 0] (uitofp (F := F) .bf16 b) (slices_group g))
      (broadcastTo S16x512 (extractStridedSlice S1x512 ![8 * k.val + g.val, 0] sT (slices_row k g)) broadcasts_S1x512_S16x512))
    (broadcastTo S16x512 (extractStridedSlice S1x512 ![8 * k.val + g.val, 0] mT (slices_row k g)) broadcasts_S1x512_S16x512)

/-- Tile `k` of the weight: the eight groups' low and high parts, one below the other. -/
def tile (k : Fin 18) (sT mT : FVec F S144x512 .bf16) (lo hi : IVec S128x512 8) : FVec F S256x512 .bf16 :=
  concatenate S256x512 0
    [⟨S16x512, part k 0 sT mT lo⟩, ⟨S16x512, part k 0 sT mT hi⟩, ⟨S16x512, part k 1 sT mT lo⟩, ⟨S16x512, part k 1 sT mT hi⟩,
     ⟨S16x512, part k 2 sT mT lo⟩, ⟨S16x512, part k 2 sT mT hi⟩, ⟨S16x512, part k 3 sT mT lo⟩, ⟨S16x512, part k 3 sT mT hi⟩,
     ⟨S16x512, part k 4 sT mT lo⟩, ⟨S16x512, part k 4 sT mT hi⟩, ⟨S16x512, part k 5 sT mT lo⟩, ⟨S16x512, part k 5 sT mT hi⟩,
     ⟨S16x512, part k 6 sT mT lo⟩, ⟨S16x512, part k 6 sT mT hi⟩, ⟨S16x512, part k 7 sT mT lo⟩, ⟨S16x512, part k 7 sT mT hi⟩]
    concatenates_S16x512_S16x512_S16x512_S16x512_S16x512_S16x512_S16x512_S16x512_S16x512_S16x512_S16x512_S16x512_S16x512_S16x512_S16x512_S16x512_S256x512_d0

/-- Tile `k`'s product: its activations times its weight. -/
def prod (k : Fin 18) (x : Vec F S192x256 .bf16) (w : FVec F S256x512 .bf16) : FVec F S192x512 .f32 :=
  matmul dot_S192x256_S256x512_S192x512_1_0_0_1_n_n none (shapeCast S192x256 x shapeCasts_S192x256_S192x256) w
    (constant S192x512 .f32 0x00000000#32)

/-- Tile `k`'s product, from the blocks of the activations, the bytes, the scales and the minima. -/
def term (x0 : Vec F S192x4608 .bf16) (x1 : Vec F S512x2304 .i8) (x2 x3 : Vec F S512x144 .bf16) (k : Fin 18) : FVec F S192x512 .f32 :=
  prod k (View.ld x0 (rectActs k))
    (tile k (transpose S144x512 [1, 0] (View.ld x2 r0_0) transposes_S512x144_p1_0_S144x512)
      (transpose S144x512 [1, 0] (View.ld x3 r0_0) transposes_S512x144_p1_0_S144x512)
      (loBytes (F := F) (View.ld x1 (rectCodes k))) (hiBytes (F := F) (View.ld x1 (rectCodes k))))

/-- The running sum after tile `n`. -/
def acc (t : Fin 18 → FVec F S192x512 .f32) : (n : Nat) → n < 18 → FVec F S192x512 .f32
  | 0, h => t ⟨0, h⟩
  | n + 1, h => addf (acc t n (Nat.lt_of_succ_lt h)) (t ⟨n + 1, h⟩)

/-- A point leaves in its output block the sum of the eighteen tiles' products, rounded once. -/
theorem out_eq_acc (x0 : Vec F S192x4608 .bf16) (x1 : Vec F S512x2304 .i8) (x2 x3 : Vec F S512x144 .bf16) :
    out0_4 x0 x1 x2 x3
      = View.canon [⟨r0_37, truncf .bf16 (acc (term x0 x1 x2 x3) 17 (by decide)) bitsLt_bf16_f32⟩] := by
  sl_kernel_rfl

end Cert.KernelIdeal.Value
-- ==== Proof.Words.lean ====
/-
  The two four-bit codes of every byte, taken out of whole words.

  The kernel reads four bytes of a column as one 32-bit word, masks the word with `0x0F0F0F0F` (after a shift by four for the
  high codes) and reads the word as four bytes again. Byte by byte this is `b &&& 15` and `b >>> 4`: the bits the shift moves
  over a byte's border are exactly the ones the mask clears.
-/
module

public import proofs.«01_k».proof.Proof.Block
public import Idealize.ShloMosaic.Lib.BitcastFour
public import Idealize.ShloMosaic.Lib.ValueLayout

@[expose] public section

noncomputable section

namespace Cert.KernelIdeal.Value

open Cert.KernelIdeal Cert.KernelIdeal.Gen Idealize.ShloMosaic Idealize.ShloMosaic.ValueIdx

/-- Thirty-two-bit words read at eight bits: bit `i` of byte row `p` of a lane is bit `8 (p mod 4) + i` of word row `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (i : Nat) (hi : i < 8) (a : Fin r)
    (ha : a.val = p.val / 4) :
    (bitcast ⟨2, ![R, n]⟩ 8 x h (ix2 p l)).getLsbD i = (x (ix2 a l)).getLsbD (8 * (p.val % 4) + i) := by
  rw [bitcast_getLsbD x h _ i hi (by decide)]
  have hrow : (⟨2, ![R, n]⟩ : Shape).row (ix2 p l) = p.val := rfl
  have e1 : (p.val * 8 + i) % 32 = 8 * (p.val % 4) + i := by omega
  have e2 : (p.val * 8 + i) / 32 = a.val := by omega
  simp only [hrow, e1]
  congr 2
  funext c
  match c with
  | ⟨0, _⟩ => exact Fin.ext ((h.srcIdx_row _ _ _ ⟨0, Nat.zero_lt_two⟩ rfl).trans (by rw [hrow, e2]))
  | ⟨1, _⟩ => exact Fin.ext (h.srcIdx_other _ _ _ ⟨1, Nat.one_lt_two⟩ (by show ¬ 1 + 2 = 2; omega))

/-- The mask keeps the low four bits of every byte. -/
theorem mask_getLsbD (q : Nat) (hq : q < 32) : (252645135#32).getLsbD q = decide (q % 8 < 4) := by
  interval_cases q <;> rfl

/-- Fifteen is the low four bits. -/
theorem fifteen_getLsbD (i : Nat) (hi : i < 8) : (15#8).getLsbD i = decide (i < 4) := by
  interval_cases i <;> rfl

variable {F : FTy → Type} [FloatOps F] (v : Vec F S512x128 .i8)

/-- Bit `8 c + i` of a word is bit `i` of the byte in row `4 a + c` of its column. -/
theorem words_getLsbD (a : Fin 32) (o : Fin 512) (q : Nat) (hq : q < 32) (p : Fin 128) (hp : p.val = 4 * a.val + q / 8) :
    (words (F := F) v (ix2 a o)).getLsbD q = ((v (ix2 o p) : BitVec 8)).getLsbD (q % 8) := by
  unfold words
  rw [bitcast_8_32_getLsbD_ix2 _ bitcasts_S128x512_w8_S32x512_w32 a o q hq p hp,
    transpose_ix2_apply _ transposes_S512x128_p1_0_S128x512 p o]

/-- A low code is its byte's low four bits. -/
theorem loBytes_apply (p : Fin 128) (o : Fin 512) : loBytes (F := F) v (ix2 p o) = (v (ix2 o p) : BitVec 8) &&& 15#8 := by
  apply BitVec.eq_of_getLsbD_eq
  intro i hi
  have hp := p.isLt
  have hq : 8 * (p.val % 4) + i < 32 := by omega
  unfold loBytes
  rw [bitcast_32_8_getLsbD_ix2 _ bitcasts_S32x512_w32_S128x512_w8 p o i hi ⟨p.val / 4, by omega⟩ rfl]
  show (words (F := F) v (ix2 _ o) &&& 252645135#32).getLsbD _ = _
  rw [BitVec.getLsbD_and, BitVec.getLsbD_and, words_getLsbD v _ o _ hq p (by dsimp only; omega), mask_getLsbD _ hq,
    fifteen_getLsbD i hi]
  have e : (8 * (p.val % 4) + i) % 8 = i := by omega
  rw [e]

/-- A high code is its byte's high four bits. -/
theorem hiBytes_apply (p : Fin 128) (o : Fin 512) : hiBytes (F := F) v (ix2 p o) = (v (ix2 o p) : BitVec 8) >>> 4 := by
  apply BitVec.eq_of_getLsbD_eq
  intro i hi
  have hp := p.isLt
  have hq : 8 * (p.val % 4) + i < 32 := by omega
  unfold hiBytes
  rw [bitcast_32_8_getLsbD_ix2 _ bitcasts_S32x512_w32_S128x512_w8 p o i hi ⟨p.val / 4, by omega⟩ rfl]
  show ((words (F := F) v (ix2 _ o)).sshiftRight 4 &&& 252645135#32).getLsbD _ = _
  have e : (8 * (p.val % 4) + i) % 8 = i := by omega
  rw [BitVec.getLsbD_and, mask_getLsbD _ hq, e, BitVec.getLsbD_sshiftRight, BitVec.getLsbD_ushiftRight]
  by_cases h4 : i < 4
  · have e' : (4 + (8 * (p.val % 4) + i)) % 8 = 4 + i := by omega
    have hq' : 4 + (8 * (p.val % 4) + i) < 32 := by omega
    rw [if_pos hq', words_getLsbD v _ o _ hq' p (by dsimp only; omega), e']
    simp [h4, hq]
  · rw [BitVec.getLsbD_of_ge _ (4 + i) (by omega)]
    simp [h4]

end Cert.KernelIdeal.Value
-- ==== Proof.Weight.lean ====
/-
  The weight both programs mean, and the sum over the depth both programs compute, as formulas.

  A depth `d` lies in group `d / 32`. Its four-bit code is in byte `16 (d / 32) + d mod 16` of its column: the byte's low half for
  the first sixteen depths of the group, its high half for the last sixteen. The weight is `code * scale + minimum`, the scale and
  the minimum being the group's.
-/
module

public import Idealize.ShloMosaic.Lib.Pointwise
public import Idealize.ShloMosaic.PureOps.Ideal

@[expose] public section

noncomputable section

namespace Cert.Weight

open Idealize.ShloMosaic

/-- A four-bit code as a number. -/
def num (b : BitVec 8) : EReal := ((b.toNat : ℝ) : EReal)

/-- The byte that holds depth `d`'s code. -/
def byteOf (d : Fin 4608) : Fin 2304 := ⟨16 * (d.val / 32) + d.val % 16, by have := d.isLt; omega⟩

/-- The group depth `d` lies in. -/
def groupOf (d : Fin 4608) : Fin 144 := ⟨d.val / 32, by have := d.isLt; omega⟩

/-- Depth `d`'s code: its byte's low four bits in the first half of the group, the high four in the second. -/
def code (b : BitVec 8) (d : Fin 4608) : BitVec 8 := if d.val % 32 < 16 then b &&& 15#8 else b >>> 4

/-- The weight of column `o` at depth `d`, of `n` columns. -/
def weight {n : Nat} (w : (⟨2, ![n, 2304]⟩ : Shape).Idx → BitVec 8) (s mn : (⟨2, ![n, 144]⟩ : Shape).Idx → EReal) (o : Fin n)
    (d : Fin 4608) : EReal :=
  num (code (w (ix2 o (byteOf d))) d) * s (ix2 o (groupOf d)) + mn (ix2 o (groupOf d))

/-- The product of row `t` of the activations with column `o` of the weight. -/
def value {n : Nat} (x : (⟨2, ![192, 4608]⟩ : Shape).Idx → EReal) (w : (⟨2, ![n, 2304]⟩ : Shape).Idx → BitVec 8)
    (s mn : (⟨2, ![n, 144]⟩ : Shape).Idx → EReal) (t : Fin 192) (o : Fin n) : EReal :=
  ∑ d : Fin 4608, x (ix2 t d) * weight w s mn o d

/-- A sum over the depth, cut into eighteen tiles of 256. -/
theorem sum_tiles {M : Type*} [AddCommMonoid M] (f : Fin 4608 → M) :
    ∑ d, f d = ∑ k : Fin 18, ∑ r : Fin 256, f ⟨256 * k.val + r.val, by have := k.isLt; have := r.isLt; omega⟩ := by
  rw [← Fintype.sum_prod_type']
  refine (Fintype.sum_equiv (finProdFinEquiv (m := 18) (n := 256)) _ f fun p => ?_).symm
  exact congrArg f (Fin.ext (by simp [finProdFinEquiv]; omega))

/-- A sum over the bytes, cut into 144 groups of sixteen. -/
theorem sum_bytes {M : Type*} [AddCommMonoid M] (f : Fin 2304 → M) :
    ∑ c, f c = ∑ G : Fin 144, ∑ r : Fin 16, f ⟨16 * G.val + r.val, by have := G.isLt; have := r.isLt; omega⟩ := by
  rw [← Fintype.sum_prod_type']
  refine (Fintype.sum_equiv (finProdFinEquiv (m := 144) (n := 16)) _ f fun p => ?_).symm
  exact congrArg f (Fin.ext (by simp [finProdFinEquiv]; omega))

/-- The depth of byte `c`'s low code. -/
def lowDepth (c : Fin 2304) : Fin 4608 := ⟨32 * (c.val / 16) + c.val % 16, by have := c.isLt; omega⟩

/-- The depth of byte `c`'s high code. -/
def highDepth (c : Fin 2304) : Fin 4608 := ⟨32 * (c.val / 16) + 16 + c.val % 16, by have := c.isLt; omega⟩

/-- A sum over the depth is the sum over the bytes' low codes and the sum over the bytes' high codes. -/
theorem sum_halves {M : Type*} [AddCommMonoid M] (f : Fin 4608 → M) :
    ∑ d, f d = ∑ c, f (lowDepth c) + ∑ c, f (highDepth c) := by
  rw [sum_bytes fun c => f (lowDepth c), sum_bytes fun c => f (highDepth c), ← Finset.sum_add_distrib]
  have e : ∑ d, f d = ∑ G : Fin 144, ∑ r : Fin 32, f ⟨32 * G.val + r.val, by have := G.isLt; have := r.isLt; omega⟩ := by
    rw [← Fintype.sum_prod_type']
    refine (Fintype.sum_equiv (finProdFinEquiv (m := 144) (n := 32)) _ f fun p => ?_).symm
    exact congrArg f (Fin.ext (by simp [finProdFinEquiv]; omega))
  rw [e]
  refine Finset.sum_congr rfl fun G _ => ?_
  rw [Fin.sum_univ_add (a := 16) (b := 16) fun r : Fin 32 => f ⟨32 * G.val + r.val, by have := G.isLt; have := r.isLt; omega⟩]
  congr 1
  · refine Finset.sum_congr rfl fun r _ => congrArg f (Fin.ext ?_)
    have := r.isLt
    simp [lowDepth]; omega
  · refine Finset.sum_congr rfl fun r _ => congrArg f (Fin.ext ?_)
    have := r.isLt
    simp [highDepth]; omega

end Cert.Weight
-- ==== Proof.Tile.lean ====
/-
  A grid point's block at an element: over the extended reals the eighteen tiles' products, added in order, are the one sum over
  the depth.
-/
module

public import proofs.«01_k».proof.Proof.Words
public import proofs.«01_k».proof.Proof.Weight
public import Idealize.ShloMosaic.Lib.Pointwise
public import Idealize.ShloMosaic.Lib.Pointwise.IndexBridge
public import Idealize.ShloMosaic.Lib.Pipeline.Value

@[expose] public section

noncomputable section

namespace Cert.KernelIdeal.Value

open Cert.KernelIdeal Cert.KernelIdeal.Gen Idealize.ShloMosaic Cert.Weight

/-- Group `g` of tile `k` at a row and a column. -/
theorem part_apply (k : Fin 18) (g : Fin 8) (sT mT : FVec Ideal S144x512 .bf16) (b : IVec S128x512 8) (i : Fin 16) (o : Fin 512) :
    part k g sT mT b (ix2 i o)
      = num (b (ix2 ⟨16 * g.val + i.val, by omega⟩ o)) * sT (ix2 ⟨8 * k.val + g.val, by omega⟩ o)
        + mT (ix2 ⟨8 * k.val + g.val, by omega⟩ o) := by
  pointwise [part]
  rfl

/-- Tile `k`'s product at an element. -/
theorem prod_apply (k : Fin 18) (x : Vec Ideal S192x256 .bf16) (w : FVec Ideal S256x512 .bf16) (t : Fin 192) (o : Fin 512) :
    prod k x w (ix2 t o) = ∑ r : Fin 256, x (ix2 t r) * w (ix2 r o) := by
  pointwise [prod]

/-- Tile `k`'s activations. -/
theorem ld_acts_apply (x0 : Vec Ideal S192x4608 .bf16) (k : Fin 18) (t : Fin 192) (r : Fin 256) :
    View.ld x0 (rectActs k) (ix2 t r) = x0 (ix2 t ⟨256 * k.val + r.val, by omega⟩) := by
  pointwise

/-- Tile `k`'s bytes. -/
theorem ld_codes_apply (x1 : Vec Ideal S512x2304 .i8) (k : Fin 18) (o : Fin 512) (p : Fin 128) :
    View.ld x1 (rectCodes k) (ix2 o p) = x1 (ix2 o ⟨128 * k.val + p.val, by omega⟩) := by
  pointwise

/-- The scales, or the minima, group by column. -/
theorem scales_apply (x : Vec Ideal S512x144 .bf16) (G : Fin 144) (o : Fin 512) :
    transpose S144x512 [1, 0] (View.ld x r0_0) transposes_S512x144_p1_0_S144x512 (ix2 G o) = x (ix2 o G) := by
  pointwise

/-- Row `r` of a tile is row `r mod 16` of piece `r / 16`: group `r / 16 / 2`, low for an even piece and high for an odd one. -/
theorem tile_row (k : Fin 18) (sT mT : FVec Ideal S144x512 .bf16) (lo hi : IVec S128x512 8) (r : Fin 256) (o : Fin 512) :
    tile k sT mT lo hi (ix2 r o)
      = part k ⟨r.val / 16 / 2, by omega⟩ sT mT (if r.val / 16 % 2 = 0 then lo else hi) (ix2 ⟨r.val % 16, by omega⟩ o) :=
  concatenate_ofFn_apply (t := S256x512) (s₁ := S16x512) 0
    (fun n : Fin 16 => part k ⟨n.val / 2, by omega⟩ sT mT (if n.val % 2 = 0 then lo else hi))
    concatenates_S16x512_S16x512_S16x512_S16x512_S16x512_S16x512_S16x512_S16x512_S16x512_S16x512_S16x512_S16x512_S16x512_S16x512_S16x512_S16x512_S256x512_d0
    rfl 16 rfl (ix2 r o) ⟨r.val / 16, by omega⟩ rfl (ix2 ⟨r.val % 16, by omega⟩ o) rfl
    (fun b => match b with
      | ⟨0, _⟩ => fun h => absurd rfl h
      | ⟨1, _⟩ => fun _ => rfl)

/-- Row `r` of tile `k` is the weight at depth `256 k + r`. -/
theorem tile_apply (k : Fin 18) (x1 : Vec Ideal S512x2304 .i8) (x2 x3 : Vec Ideal S512x144 .bf16) (r : Fin 256) (o : Fin 512) :
    tile (F := Ideal) k (transpose S144x512 [1, 0] (View.ld x2 r0_0) transposes_S512x144_p1_0_S144x512)
      (transpose S144x512 [1, 0] (View.ld x3 r0_0) transposes_S512x144_p1_0_S144x512)
      (loBytes (F := Ideal) (View.ld x1 (rectCodes k))) (hiBytes (F := Ideal) (View.ld x1 (rectCodes k))) (ix2 r o)
      = weight x1 x2 x3 o ⟨256 * k.val + r.val, by omega⟩ := by
  have hr := r.isLt
  have hk := k.isLt
  rw [tile_row]
  rw [part_apply, scales_apply, scales_apply]
  unfold weight code
  have eg : (⟨8 * k.val + (⟨r.val / 16 / 2, by omega⟩ : Fin 8).val, by dsimp only; omega⟩ : Fin 144)
      = groupOf ⟨256 * k.val + r.val, by omega⟩ := Fin.ext (by simp only [groupOf]; omega)
  have eb : (⟨128 * k.val + (16 * (r.val / 16 / 2) + r.val % 16), by omega⟩ : Fin 2304)
      = byteOf ⟨256 * k.val + r.val, by omega⟩ := Fin.ext (by simp only [byteOf]; omega)
  rw [eg]
  congr 2
  by_cases h : r.val / 16 % 2 = 0
  · have h' : (256 * k.val + r.val) % 32 < 16 := by omega
    rw [if_pos h, if_pos h', ix2_eq_valueIdx, loBytes_apply, ← ix2_eq_valueIdx, ld_codes_apply, eb]
  · have h' : ¬ (256 * k.val + r.val) % 32 < 16 := by omega
    rw [if_neg h, if_neg h', ix2_eq_valueIdx, hiBytes_apply, ← ix2_eq_valueIdx, ld_codes_apply, eb]

variable (x0 : Vec Ideal S192x4608 .bf16) (x1 : Vec Ideal S512x2304 .i8) (x2 x3 : Vec Ideal S512x144 .bf16)

/-- Tile `k`'s product is its share of the sum over the depth. -/
theorem term_apply (k : Fin 18) (t : Fin 192) (o : Fin 512) :
    term x0 x1 x2 x3 k (ix2 t o)
      = ∑ r : Fin 256, x0 (ix2 t ⟨256 * k.val + r.val, by omega⟩) * weight x1 x2 x3 o ⟨256 * k.val + r.val, by omega⟩ := by
  unfold term
  rw [prod_apply]
  exact Finset.sum_congr rfl fun r _ => by rw [ld_acts_apply, tile_apply]

/-- The running sum after tile `n` is the sum of the tiles up to it. -/
theorem acc_apply (T : Fin 18 → FVec Ideal S192x512 .f32) (j : S192x512.Idx) : ∀ (n : Nat) (h : n < 18),
    acc T n h j = ∑ k : Fin (n + 1), T ⟨k.val, by omega⟩ j
  | 0, h => by simp [acc]
  | n + 1, h => by
    rw [Fin.sum_univ_castSucc]
    show acc T n _ j + T _ j = _
    rw [acc_apply T j n]
    rfl

/-- The block a point leaves, at row `t` and column `o`: the sum over the depth. -/
theorem out_apply (t : Fin 192) (o : Fin 512) : out0_4 x0 x1 x2 x3 (ix2 t o) = value x0 x1 x2 x3 t o := by
  rw [out_eq_acc, View.canon_unit_zero (S := S192x512) (funext fun a => by fin_cases a <;> rfl)]
  show acc (term x0 x1 x2 x3) 17 _ (ix2 t o) = _
  rw [acc_apply]
  unfold value
  rw [sum_tiles]
  exact Finset.sum_congr rfl fun k _ => term_apply x0 x1 x2 x3 k t o

end Cert.KernelIdeal.Value
-- ==== Proof.Array.lean ====
/-
  What the result array holds after the whole grid: point `i` writes columns `512 i` to `512 i + 511` of every row, so at row `t`
  and column `o` the array holds the sum over the depth of row `t`'s activations times column `o`'s weight.
-/
module

public import proofs.«01_k».proof.Proof.Tile
public import Idealize.ShloMosaic.Lib.Pipeline.Value
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Idealize.SL.Sem Cert.Weight
open Idealize.ShloMosaic.Pipeline (Dat)

variable (m : (ℓ : Loc nD τ sig) → Buf (Elt Ideal) ℓ)

/-- The result array's contents. -/
def final (c : Dev nD) : S192x9216.Idx → EReal := fun i =>
  value (n := 9216) (V m c main_v0) (V m c main_arg1) (V m c main_arg2) (V m c main_arg3) (i 0) (i 1)

/-- The sum over the depth reads only one row of the activations and one column of the weight. -/
theorem value_congr {n n' : Nat} {x x' : (⟨2, ![192, 4608]⟩ : Shape).Idx → EReal}
    {w : (⟨2, ![n, 2304]⟩ : Shape).Idx → BitVec 8} {w' : (⟨2, ![n', 2304]⟩ : Shape).Idx → BitVec 8}
    {s mn : (⟨2, ![n, 144]⟩ : Shape).Idx → EReal} {s' mn' : (⟨2, ![n', 144]⟩ : Shape).Idx → EReal} {t t' : Fin 192} {o : Fin n} {o' : Fin n'}
    (hx : ∀ d, x (ix2 t d) = x' (ix2 t' d)) (hw : ∀ b, w (ix2 o b) = w' (ix2 o' b)) (hs : ∀ G, s (ix2 o G) = s' (ix2 o' G))
    (hm : ∀ G, mn (ix2 o G) = mn' (ix2 o' G)) : value x w s mn t o = value x' w' s' mn' t' o' := by
  unfold value weight
  exact Finset.sum_congr rfl fun d _ => by rw [hx, hw, hs, hm]

/-- The windows' block indices: the activations' block never moves, point `t` holds the columns' block `t`. -/
theorem idx : ∀ t : Fin cfg0.N, win0_0.index t = ![0, 0] ∧ win0_1.index t = ![t.val, 0] ∧ win0_2.index t = ![t.val, 0]
    ∧ win0_3.index t = ![t.val, 0] ∧ win0_4.index t = ![0, t.val] :=
  (by decide +kernel : ∀ t : Fin grid0.N, _)

/-- The grid has eighteen points. -/
theorem lt_points (t : Fin cfg0.N) : t.val < 18 := t.isLt

/-- Every point's block of the activations is the whole array. -/
theorem iblk0_apply (c : Dev nD) (t : Fin cfg0.N) (r : Fin 192) (d : Fin 4608) :
    iblk m c 0 t (ix2 r d) = V m c main_v0 (ix2 r d) := by
  blk_simp [iblk, idx t]
  refine congrArg (V m c main_v0) (funext fun a => Fin.ext ?_)
  match a with
  | ⟨0, _⟩ => blk_simp [idx t]
  | ⟨1, _⟩ => blk_simp [idx t]

/-- Point `t`'s bytes are those of columns `512 t` and on. -/
theorem iblk1_apply (c : Dev nD) (t : Fin cfg0.N) (o : Fin 512) (b : Fin 2304) :
    iblk m c 1 t (ix2 o b) = V m c main_arg1 (ix2 ⟨512 * t.val + o.val, by have := lt_points t; omega⟩ b) := by
  blk_simp [iblk, idx t]
  refine congrArg (V m c main_arg1) (funext fun a => Fin.ext ?_)
  match a with
  | ⟨0, _⟩ => blk_simp [idx t]; show t.val * 512 + o.val = 512 * t.val + o.val; omega
  | ⟨1, _⟩ => blk_simp [idx t]

/-- Point `t`'s scales are those of columns `512 t` and on. -/
theorem iblk2_apply (c : Dev nD) (t : Fin cfg0.N) (o : Fin 512) (b : Fin 144) :
    iblk m c 2 t (ix2 o b) = V m c main_arg2 (ix2 ⟨512 * t.val + o.val, by have := lt_points t; omega⟩ b) := by
  blk_simp [iblk, idx t]
  refine congrArg (V m c main_arg2) (funext fun a => Fin.ext ?_)
  match a with
  | ⟨0, _⟩ => blk_simp [idx t]; show t.val * 512 + o.val = 512 * t.val + o.val; omega
  | ⟨1, _⟩ => blk_simp [idx t]

/-- Point `t`'s minima are those of columns `512 t` and on. -/
theorem iblk3_apply (c : Dev nD) (t : Fin cfg0.N) (o : Fin 512) (b : Fin 144) :
    iblk m c 3 t (ix2 o b) = V m c main_arg3 (ix2 ⟨512 * t.val + o.val, by have := lt_points t; omega⟩ b) := by
  blk_simp [iblk, idx t]
  refine congrArg (V m c main_arg3) (funext fun a => Fin.ext ?_)
  match a with
  | ⟨0, _⟩ => blk_simp [idx t]; show t.val * 512 + o.val = 512 * t.val + o.val; omega
  | ⟨1, _⟩ => blk_simp [idx t]

/-- Point `t` writes columns `512 t` and on of every row. -/
theorem emb4 (t : Fin cfg0.N) (a : Fin 192) (b : Fin 512) :
    (win0_4.blk t).view.emb (ix2 a b) = (ix2 a ⟨512 * t.val + b.val, by have := lt_points t; omega⟩ : S192x9216.Idx) := by
  refine funext fun k => Fin.ext ?_
  match k with
  | ⟨0, _⟩ => blk_simp [idx t]
  | ⟨1, _⟩ => blk_simp [idx t]; show t.val * 512 + b.val = 512 * t.val + b.val; omega

/-- After the whole grid the result array holds the sums. -/
theorem arrAt_eq (c : Dev nD) : (dats m 0 c).arrAt 4 (cfgs 0).N = final m c := by
  refine (dats m 0 c).arrAt_eq_of_covers 4 _ (by decide +kernel) fun t hf y => ?_
  blk_simp
  rw [after0_4]
  revert y
  intro (y : S192x512.Idx)
  obtain ⟨a, b, rfl⟩ : ∃ a b, y = ix2 (n0 := 192) (n1 := 512) a b := ⟨_, _, eq_ix2 y⟩
  rw [out_apply]
  refine Eq.trans ?_ (congrArg (final m c) (emb4 t a b)).symm
  exact value_congr (iblk0_apply m c t a) (iblk1_apply m c t b) (iblk2_apply m c t b) (iblk3_apply m c t b)

/-- The region finds its activations as the argument with the two leading axes joined. -/
theorem V_main_v0 (c : Dev nD) :
    V m c main_v0 = shapeCast S192x4608 (m ((c : Thread nD τ).loc main_arg0)) shapeCasts_S192x1x4608_S192x4608 := by
  show StableHlo.after hostOps0 (fun b => m (c, b)) (Proc.devRef .tc main_v0) = _
  after_results_simp
  rfl

/-- The kernel's result is the result array with its leading axis split again. -/
theorem tail_main_v2 (c : Dev nD) :
    Pipeline.afterTail₀ cfgs (dats m) 0 (V0 m) [hostOps1] c main_v2
      = shapeCast S192x1x9216 (final m c) shapeCasts_S192x9216_S192x1x9216 := by
  unfold Pipeline.afterTail₀
  show StableHlo.after hostOps1 _ (Proc.devRef .tc main_v2) = _
  after_results_simp
  have h : Pipeline.withArrays (cfgs 0).spec c (V0 m c) (fun w => (dats m 0 c).arrAt w (cfgs 0).N) (Proc.devRef .tc main_v1)
      = final m c :=
    (Pipeline.withArrays_arr (cfgs 0).spec (by decide : Function.Injective (Pipeline.arrRef spec0)) c _ _ 4).trans (arrAt_eq m c)
  exact congrArg (fun x => shapeCast S192x1x9216 x shapeCasts_S192x9216_S192x1x9216) h

end Cert.KernelIdeal.Value
-- ==== Proof.Reference.lean ====
/-
  The reference at an element: one product over the bytes' low codes, one over their high codes, added.
-/
module

public import proofs.«01_k».proof.Proof.Gen.ReferenceIdeal.Run
public import proofs.«01_k».proof.Proof.Weight
public import Idealize.ShloMosaic.Lib.Pointwise

@[expose] public section

set_option maxRecDepth 16384

noncomputable section

namespace Cert.ReferenceIdeal.Value

open Cert.ReferenceIdeal Cert.ReferenceIdeal.Gen Idealize.ShloMosaic Cert.Weight

/-- Half of the weight from its codes: `code * scale + minimum`, each group's scale and minimum repeated over its sixteen bytes. -/
def half (b : IVec S9216x144x16 32) (s mn : FVec Ideal S9216x144 .bf16) : FVec Ideal S9216x2304 .bf16 :=
  shapeCast _ (addf (mulf (sitofp .bf16 b) (broadcastInDim S9216x144x16 ![0, 1, 2] bcast_S9216x144x1_S9216x144x16_0_1_2 (broadcastInDim S9216x144x1 ![0, 1] bcast_S9216x144_S9216x144x1_0_1 s))) (broadcastInDim S9216x144x16 ![0, 1, 2] bcast_S9216x144x1_S9216x144x16_0_1_2 (broadcastInDim S9216x144x1 ![0, 1] bcast_S9216x144_S9216x144x1_0_1 mn))) shapeCasts_S9216x144x16_S9216x2304

/-- The bytes, group by group, widened. -/
def bytes (w : IVec S9216x2304 8) : IVec S9216x144x16 32 :=
  shapeCast _ (extui 32 w natLt_8_32) shapeCasts_S9216x2304_S9216x144x16

/-- The low codes. -/
def lo (w : IVec S9216x2304 8) : IVec S9216x144x16 32 :=
  andi (bytes w) (broadcastInDim S9216x144x16 ![] bcast_S_S9216x144x16 (constantI S_ 32 15#32))

/-- The high codes. -/
def hi (w : IVec S9216x2304 8) : IVec S9216x144x16 32 :=
  Host.shrsi (bytes w) (broadcastInDim S9216x144x16 ![] bcast_S_S9216x144x16 (constantI S_ 32 4#32))

/-- The activations of the low codes, byte by byte. -/
def actsLo (x : FVec Ideal S192x1x4608 .bf16) : FVec Ideal S192x2304 .bf16 :=
  shapeCast _ (extractStridedSlice S192x144x16 ![0, 0, 0] (shapeCast _ x shapeCasts_S192x1x4608_S192x144x32) slices_S192x144x32_S192x144x16_0_0_0) shapeCasts_S192x144x16_S192x2304

/-- The activations of the high codes, byte by byte. -/
def actsHi (x : FVec Ideal S192x1x4608 .bf16) : FVec Ideal S192x2304 .bf16 :=
  shapeCast _ (extractStridedSlice S192x144x16 ![0, 0, 16] (shapeCast _ x shapeCasts_S192x1x4608_S192x144x32) slices_S192x144x32_S192x144x16_0_0_16) shapeCasts_S192x144x16_S192x2304

/-- What the reference's run leaves in its result. -/
def result (x : FVec Ideal S192x1x4608 .bf16) (w : IVec S9216x2304 8) (s mn : FVec Ideal S9216x144 .bf16) : FVec Ideal S192x1x9216 .bf16 :=
  shapeCast _ (truncf .bf16 (addf (Host.dotGeneral dot_S192x2304_S9216x2304_S192x9216_1_1_0_0_n_n none (actsLo x) (half (lo w) s mn))
    (Host.dotGeneral dot_S192x2304_S9216x2304_S192x9216_1_1_0_0_n_n none (actsHi x) (half (hi w) s mn))) bitsLt_bf16_f32) shapeCasts_S192x9216_S192x1x9216

/-- The result at row `t` and column `o`: the two products. -/
theorem result_eq_halves (x : FVec Ideal S192x1x4608 .bf16) (w : IVec S9216x2304 8) (s mn : FVec Ideal S9216x144 .bf16) (t : Fin 192)
    (z : Fin 1) (o : Fin 9216) :
    result x w s mn (ix3 t z o) = ∑ c : Fin 2304, actsLo x (ix2 t c) * half (lo w) s mn (ix2 o c)
      + ∑ c : Fin 2304, actsHi x (ix2 t c) * half (hi w) s mn (ix2 o c) := by
  pointwise [result]

/-- Byte `c`'s low activation is the activation at its low code's depth. -/
theorem actsLo_apply (x : FVec Ideal S192x1x4608 .bf16) (t : Fin 192) (c : Fin 2304) :
    actsLo x (ix2 t c) = x (ix3 t 0 (lowDepth c)) := by
  pointwise [actsLo]
  exact congrArg (fun d => x (ix3 t 0 d)) (Fin.ext (by simp only [lowDepth]; omega))

/-- Byte `c`'s high activation is the activation at its high code's depth. -/
theorem actsHi_apply (x : FVec Ideal S192x1x4608 .bf16) (t : Fin 192) (c : Fin 2304) :
    actsHi x (ix2 t c) = x (ix3 t 0 (highDepth c)) := by
  pointwise [actsHi]
  exact congrArg (fun d => x (ix3 t 0 d)) (Fin.ext (by simp only [highDepth]; omega))

/-- A low code is its widened byte masked. -/
theorem lo_apply (w : IVec S9216x2304 8) (o : Fin 9216) (c : Fin 2304) :
    lo w (ix3 o ⟨c.val / 16, by omega⟩ ⟨c.val % 16, by omega⟩) = IntOp.andi ((w (ix2 o c)).setWidth 32) 15#32 := by
  pointwise [lo, bytes]

/-- A high code is its widened byte shifted by four. -/
theorem hi_apply (w : IVec S9216x2304 8) (o : Fin 9216) (c : Fin 2304) :
    hi w (ix3 o ⟨c.val / 16, by omega⟩ ⟨c.val % 16, by omega⟩) = IntOp.shrsi .host ((w (ix2 o c)).setWidth 32) 4#32 := by
  pointwise [hi, bytes]

/-- Half of the weight at a byte: the code, its group's scale and its group's minimum. -/
theorem half_apply (b : IVec S9216x144x16 32) (s mn : FVec Ideal S9216x144 .bf16) (o : Fin 9216) (c : Fin 2304) :
    half b s mn (ix2 o c)
      = (((b (ix3 o ⟨c.val / 16, by omega⟩ ⟨c.val % 16, by omega⟩)).toInt : ℝ) : EReal) * s (ix2 o ⟨c.val / 16, by omega⟩)
        + mn (ix2 o ⟨c.val / 16, by omega⟩) := by
  pointwise [half]
  rfl

/-- The masked word, read as a signed number, is the low code. -/
theorem lo_toInt (b : BitVec 8) : (IntOp.andi (b.setWidth 32) 15#32).toInt = ((b &&& 15#8).toNat : ℤ) := by
  have h : ∀ b : Fin 256, (IntOp.andi ((BitVec.ofFin (w := 8) b).setWidth 32) 15#32).toInt
      = (((BitVec.ofFin (w := 8) b) &&& 15#8).toNat : ℤ) := by decide +kernel
  exact h b.toFin

/-- The shifted word, read as a signed number, is the high code. -/
theorem hi_toInt (b : BitVec 8) : (IntOp.shrsi .host (b.setWidth 32) 4#32).toInt = ((b >>> 4).toNat : ℤ) := by
  have h : ∀ b : Fin 256, ((BitVec.ofFin (w := 8) b).setWidth 32 |>.sshiftRight 4).toInt
      = (((BitVec.ofFin (w := 8) b) >>> 4).toNat : ℤ) := by decide +kernel
  exact h b.toFin

/-- The low half's weight at byte `c` is the weight at its low code's depth. -/
theorem half_lo (w : IVec S9216x2304 8) (s mn : FVec Ideal S9216x144 .bf16) (o : Fin 9216) (c : Fin 2304) :
    half (lo w) s mn (ix2 o c) = weight w s mn o (lowDepth c) := by
  rw [half_apply, lo_apply, lo_toInt]
  have eg : (⟨c.val / 16, by omega⟩ : Fin 144) = groupOf (lowDepth c) := Fin.ext (by simp only [groupOf, lowDepth]; omega)
  have eb : byteOf (lowDepth c) = c := Fin.ext (by simp only [byteOf, lowDepth]; omega)
  have h : (lowDepth c).val % 32 < 16 := by simp only [lowDepth]; omega
  unfold weight code num
  rw [eb, if_pos h, eg, Int.cast_natCast]

/-- The high half's weight at byte `c` is the weight at its high code's depth. -/
theorem half_hi (w : IVec S9216x2304 8) (s mn : FVec Ideal S9216x144 .bf16) (o : Fin 9216) (c : Fin 2304) :
    half (hi w) s mn (ix2 o c) = weight w s mn o (highDepth c) := by
  rw [half_apply, hi_apply, hi_toInt]
  have eg : (⟨c.val / 16, by omega⟩ : Fin 144) = groupOf (highDepth c) := Fin.ext (by simp only [groupOf, highDepth]; omega)
  have eb : byteOf (highDepth c) = c := Fin.ext (by simp only [byteOf, highDepth]; omega)
  have h : ¬ (highDepth c).val % 32 < 16 := by simp only [highDepth]; omega
  unfold weight code num
  rw [eb, if_neg h, eg, Int.cast_natCast]

/-- The reference's result at row `t` and column `o` is the one sum over the depth. -/
theorem result_apply (x : FVec Ideal S192x1x4608 .bf16) (w : IVec S9216x2304 8) (s mn : FVec Ideal S9216x144 .bf16) (t : Fin 192)
    (z : Fin 1) (o : Fin 9216) :
    result x w s mn (ix3 t z o) = ∑ d : Fin 4608, x (ix3 t 0 d) * weight w s mn o d := by
  rw [result_eq_halves, sum_halves]
  congr 1
  · exact Finset.sum_congr rfl fun c _ => by rw [actsLo_apply, half_lo]
  · exact Finset.sum_congr rfl fun c _ => by rw [actsHi_apply, half_hi]

end Cert.ReferenceIdeal.Value
-- ==== Proof.Equation.lean ====
/-
  The two programs' results are equal: both hold, at row `t` and column `o`, the sum over the depth of the activations times the weight.
-/
module

public import proofs.«01_k».proof.Proof.Array
public import proofs.«01_k».proof.Proof.Reference

@[expose] public section

noncomputable section

namespace Cert.Equation

open Idealize.ShloMosaic Cert.Weight

/-- The activations' leading axes joined, at row `t` and depth `d`. -/
theorem acts_apply (x : FVec Ideal Cert.KernelIdeal.S192x1x4608 .bf16) (t : Fin 192) (d : Fin 4608) (h) :
    shapeCast Cert.KernelIdeal.S192x4608 x h (ix2 t d) = x (ix3 t 0 d) := by
  pointwise

/-- The sums, laid out as the kernel's result, are what the reference leaves. -/
theorem eq_reference (x : FVec Ideal Cert.KernelIdeal.S192x1x4608 .bf16) (w : IVec Cert.KernelIdeal.S9216x2304 8)
    (s mn : FVec Ideal Cert.KernelIdeal.S9216x144 .bf16) (h h') :
    shapeCast Cert.KernelIdeal.S192x1x9216
        (fun i : Cert.KernelIdeal.S192x9216.Idx =>
          value (n := 9216) (shapeCast Cert.KernelIdeal.S192x4608 x h) w s mn (i 0) (i 1)) h'
      = Cert.ReferenceIdeal.Value.result x w s mn := by
  funext j
  obtain ⟨t, z, o, rfl⟩ : ∃ t z o, j = ix3 (n0 := 192) (n1 := 1) (n2 := 9216) t z o := ⟨_, _, _, eq_ix3 j⟩
  refine Eq.trans ?_ (Cert.ReferenceIdeal.Value.result_apply x w s mn t z o).symm
  pointwise
  unfold value
  exact Finset.sum_congr rfl fun d _ => by rw [acts_apply]

end Cert.Equation
-- ==== Proof.lean ====
/-
  The certificate assembled. Both kernel programs and the reference run to their end and leave their arguments unchanged; no
  operation was rewritten; and over the extended reals the kernel's result is the reference's.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation
public import Idealize.ShloMosaic.Lib.Claim

@[expose] public section

noncomputable section

namespace Cert.Proof

open Idealize.ShloMosaic Idealize.ShloMosaic.TcCoe Idealize.SL.Sem

/-- The reference runs to its end, its arguments unchanged and every counter at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From memories that agree on the arguments, kernel and reference end with one result. -/
theorem algebraic : Cert.algebraic_KernelIdeal_ReferenceIdeal := by
  pair_intro
  · run_from Cert.KernelIdeal.Gen.run_main m g
    exact Cert.KernelIdeal.Gen.W_main_arg0 m (Cert.KernelIdeal.Gen.dats m) c
  · run_from Cert.ReferenceIdeal.Value.run m' g'
    rw [Cert.KernelIdeal.Value.tail_main_v2]
    unfold Cert.KernelIdeal.Value.final
    rw [Cert.KernelIdeal.Value.V_main_v0, Cert.KernelIdeal.Gen.V_main_arg1, Cert.KernelIdeal.Gen.V_main_arg2,
      Cert.KernelIdeal.Gen.V_main_arg3]
    exact (Cert.Equation.eq_reference _ _ _ _ _ _).symm

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
